-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_probabilities [hPre_probabilities : Cert.Pre_probabilities.Facts] (m : (ℓ : Loc Cert.KernelIdeal.nD Cert.KernelIdeal.τ Cert.KernelIdeal.sig) → Buf (Elt Ideal) ℓ) : Prop :=
  ∀ c : Dev Cert.KernelIdeal.nD,
    (Cert.Pre_probabilities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_probabilities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_probabilities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_probabilities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_probabilities [hPre_probabilities : Cert.Pre_probabilities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_probabilities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_probabilities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_probabilities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_probabilities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_probabilities [hKernelIdeal : Cert.KernelIdeal.Facts] [hPre_probabilities : Cert.Pre_probabilities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_probabilities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_probabilities [hReferenceIdeal : Cert.ReferenceIdeal.Facts] [hPre_probabilities : Cert.Pre_probabilities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_probabilities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8))
      ∧ r.2.sem = fun _ => 0)

def preserves_Kernel_KernelIdeal : Prop :=
  IdealRules.named_const.Statement Cert.KernelIdeal.κ "eps" .bf16 0x33D7#16 ((14073749 / 140737488355328 : ℝ) : EReal)

def preserves_Reference_ReferenceIdeal : Prop :=
  True

def algebraic_KernelIdeal_ReferenceIdeal_pre_probabilities [hKernelIdeal : Cert.KernelIdeal.Facts] [hReferenceIdeal : Cert.ReferenceIdeal.Facts] [hPre_probabilities : Cert.Pre_probabilities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_probabilities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hReference : Cert.Reference.Facts) (hPre_probabilities : Cert.Pre_probabilities.Facts),
    quiescent_Kernel (hKernel := hKernel)
    ∧ quiescent_KernelIdeal (hKernelIdeal := hKernelIdeal)
    ∧ quiescent_KernelIdeal_pre_probabilities (hKernelIdeal := hKernelIdeal) (hPre_probabilities := hPre_probabilities)
    ∧ quiescent_ReferenceIdeal (hReferenceIdeal := hReferenceIdeal)
    ∧ quiescent_ReferenceIdeal_pre_probabilities (hReferenceIdeal := hReferenceIdeal) (hPre_probabilities := hPre_probabilities)
    ∧ quiescent_Reference (hReference := hReference)
    ∧ preserves_Kernel_KernelIdeal
    ∧ preserves_Reference_ReferenceIdeal
    ∧ algebraic_KernelIdeal_ReferenceIdeal_pre_probabilities (hKernelIdeal := hKernelIdeal) (hReferenceIdeal := hReferenceIdeal) (hPre_probabilities := hPre_probabilities)
-- ==== Pre_probabilities.lean ====
abbrev S_ : Shape := ⟨0, ![]⟩
abbrev S32x8732x21 : Shape := ⟨3, ![32, 8732, 21]⟩
abbrev S32x8732x4 : Shape := ⟨3, ![32, 8732, 4]⟩

class Facts : Prop where
  bcast_S_S32x8732x21 : S_.BroadcastsInDim S32x8732x21 (![] : Fin 0 → Fin S32x8732x21.rank)

variable [Facts]

def fn_part1 {F : FTy → Type} [FloatOps F] (main_arg6 : FVec F S32x8732x21 .f32) (main_v2 : IVec S_ 1) (main_v7 : IVec S32x8732x21 1) (main_v12 : IVec S32x8732x21 1) (main_v14 : IVec S32x8732x21 1) (main_v15 : FVec F S32x8732x21 .f32) : IVec S_ 1 × IVec S32x8732x21 1 × IVec S32x8732x21 1 × IVec S32x8732x21 1 :=
  let main_v16 : IVec S32x8732x21 1 := cmpf .olt main_arg6 main_v15
  let main_v17 : IVec S32x8732x21 1 := andi main_v14 main_v16
  (main_v2, main_v7, main_v12, main_v17)

def fn {F : FTy → Type} [FloatOps F] (main_arg0 : FVec F S_ .f32) (main_arg1 : FVec F S32x8732x21 .f32) (main_arg2 : FVec F S32x8732x21 .f32) (main_arg3 : FVec F S32x8732x4 .f32) (main_arg4 : FVec F S32x8732x4 .f32) (main_arg5 : FVec F S32x8732x21 .f32) (main_arg6 : FVec F S32x8732x21 .f32) (main_arg7 : FVec F S32x8732x4 .f32) (main_arg8 : FVec F S32x8732x4 .f32) : IVec S_ 1 × IVec S32x8732x21 1 × IVec S32x8732x21 1 × IVec S32x8732x21 1 :=
  let main_cst : FVec F S_ .f32 := constant S_ .f32 0x00000000#32
  let main_v0 : IVec S_ 1 := cmpf .oge main_arg0 main_cst
  let main_cst_0 : FVec F S_ .f32 := constant S_ .f32 0x3F800000#32
  let main_v1 : IVec S_ 1 := cmpf .ole main_arg0 main_cst_0
  let main_v2 : IVec S_ 1 := andi main_v0 main_v1
  let main_cst_1 : FVec F S_ .f32 := constant S_ .f32 0x00000000#32
  let main_v3 : FVec F S32x8732x21 .f32 := broadcastInDim S32x8732x21 ![] bcast_S_S32x8732x21 main_cst_1
  let main_v4 : IVec S32x8732x21 1 := cmpf .oge main_arg1 main_v3
  let main_cst_2 : FVec F S_ .f32 := constant S_ .f32 0x7F800000#32
  let main_v5 : FVec F S32x8732x21 .f32 := broadcastInDim S32x8732x21 ![] bcast_S_S32x8732x21 main_cst_2
  let main_v6 : IVec S32x8732x21 1 := cmpf .olt main_arg1 main_v5
  let main_v7 : IVec S32x8732x21 1 := andi main_v4 main_v6
  let main_cst_3 : FVec F S_ .f32 := constant S_ .f32 0x00000000#32
  let main_v8 : FVec F S32x8732x21 .f32 := broadcastInDim S32x8732x21 ![] bcast_S_S32x8732x21 main_cst_3
  let main_v9 : IVec S32x8732x21 1 := cmpf .oge main_arg5 main_v8
  let main_cst_4 : FVec F S_ .f32 := constant S_ .f32 0x7F800000#32
  let main_v10 : FVec F S32x8732x21 .f32 := broadcastInDim S32x8732x21 ![] bcast_S_S32x8732x21 main_cst_4
  let main_v11 : IVec S32x8732x21 1 := cmpf .olt main_arg5 main_v10
  let main_v12 : IVec S32x8732x21 1 := andi main_v9 main_v11
  let main_cst_5 : FVec F S_ .f32 := constant S_ .f32 0x00000000#32
  let main_v13 : FVec F S32x8732x21 .f32 := broadcastInDim S32x8732x21 ![] bcast_S_S32x8732x21 main_cst_5
  let main_v14 : IVec S32x8732x21 1 := cmpf .oge main_arg6 main_v13
  let main_cst_6 : FVec F S_ .f32 := constant S_ .f32 0x7F800000#32
  let main_v15 : FVec F S32x8732x21 .f32 := broadcastInDim S32x8732x21 ![] bcast_S_S32x8732x21 main_cst_6
  fn_part1 (F := F) main_arg6 main_v2 main_v7 main_v12 main_v14 main_v15
-- ==== Kernel.lean ====
abbrev S_ : Shape := ⟨0, ![]⟩
abbrev S32x8732x21 : Shape := ⟨3, ![32, 8732, 21]⟩
abbrev S32x8732x4 : Shape := ⟨3, ![32, 8732, 4]⟩
abbrev S1 : Shape := ⟨1, ![1]⟩
abbrev S32x21x8732 : Shape := ⟨3, ![32, 21, 8732]⟩
abbrev S1x1 : Shape := ⟨2, ![1, 1]⟩
abbrev S2x21x8732 : Shape := ⟨3, ![2, 21, 8732]⟩
abbrev S2x20x8732 : Shape := ⟨3, ![2, 20, 8732]⟩
abbrev S2x8732 : Shape := ⟨2, ![2, 8732]⟩
abbrev S2x1x8732 : Shape := ⟨3, ![2, 1, 8732]⟩
abbrev S1x2x1x8732 : Shape := ⟨4, ![1, 2, 1, 8732]⟩
abbrev S1x1x1x1 : Shape := ⟨4, ![1, 1, 1, 1]⟩

abbrev nBuf : Space → Nat
  | .hbm => 19
  | .vmem => 6
  | .smem => 3
  | _ => 0

abbrev bufTy : (tb : Table) → Fin (tcTables nBuf tb) → BufTy
  | .hbm, ⟨0, _⟩ => ⟨S_, .f32⟩
  | .hbm, ⟨1, _⟩ => ⟨S32x8732x21, .f32⟩
  | .hbm, ⟨2, _⟩ => ⟨S32x8732x21, .f32⟩
  | .hbm, ⟨3, _⟩ => ⟨S32x8732x4, .f32⟩
  | .hbm, ⟨4, _⟩ => ⟨S32x8732x4, .f32⟩
  | .hbm, ⟨5, _⟩ => ⟨S32x8732x21, .f32⟩
  | .hbm, ⟨6, _⟩ => ⟨S32x8732x21, .f32⟩
  | .hbm, ⟨7, _⟩ => ⟨S32x8732x4, .f32⟩
  | .hbm, ⟨8, _⟩ => ⟨S32x8732x4, .f32⟩
  | .hbm, ⟨9, _⟩ => ⟨S1, .f32⟩
  | .hbm, ⟨10, _⟩ => ⟨S32x8732x21, .bf16⟩
  | .hbm, ⟨11, _⟩ => ⟨S32x21x8732, .bf16⟩
  | .hbm, ⟨12, _⟩ => ⟨S32x8732x21, .bf16⟩
  | .hbm, ⟨13, _⟩ => ⟨S32x21x8732, .bf16⟩
  | .hbm, ⟨14, _⟩ => ⟨S32x8732x21, .bf16⟩
  | .hbm, ⟨15, _⟩ => ⟨S32x21x8732, .bf16⟩
  | .hbm, ⟨16, _⟩ => ⟨S1x1, .f32⟩
  | .hbm, ⟨17, _⟩ => ⟨S1x1, .f32⟩
  | .hbm, ⟨18, _⟩ => ⟨S_, .f32⟩
  | .local _ .vmem, ⟨0, _⟩ => ⟨S2x21x8732, .bf16⟩
  | .local _ .vmem, ⟨1, _⟩ => ⟨S2x21x8732, .bf16⟩
  | .local _ .vmem, ⟨2, _⟩ => ⟨S2x21x8732, .bf16⟩
  | .local _ .vmem, ⟨3, _⟩ => ⟨S2x21x8732, .bf16⟩
  | .local _ .vmem, ⟨4, _⟩ => ⟨S2x21x8732, .bf16⟩
  | .local _ .vmem, ⟨5, _⟩ => ⟨S2x21x8732, .bf16⟩
  | .local _ .smem, ⟨0, _⟩ => ⟨S1, .f32⟩
  | .local _ .smem, ⟨1, _⟩ => ⟨S1x1, .f32⟩
  | .local _ .smem, ⟨2, _⟩ => ⟨S1x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.addi arg0 c8_i32
  let c16_i32 : BitVec 32 := 16#32
  let v1 : BitVec 32 := Scalar.remsi v0 c16_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x21x8732 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x21x8732 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x21x8732 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "eps" => some ((14073749 / 140737488355328 : ℝ) : EReal)
  | _ => none
-- ==== Reference.lean ====
abbrev S_ : Shape := ⟨0, ![]⟩
abbrev S32x8732x21 : Shape := ⟨3, ![32, 8732, 21]⟩
abbrev S32x8732x4 : Shape := ⟨3, ![32, 8732, 4]⟩
abbrev S16x8732x21 : Shape := ⟨3, ![16, 8732, 21]⟩
abbrev S32x8732x20 : Shape := ⟨3, ![32, 8732, 20]⟩
abbrev S32x8732 : Shape := ⟨2, ![32, 8732]⟩
abbrev S32x8732x1 : Shape := ⟨3, ![32, 8732, 1]⟩

abbrev nBuf : Space → Nat
  | .hbm => 70
  | .vmem => 0
  | .smem => 0
  | _ => 0

abbrev bufTy : (tb : Table) → Fin (tcTables nBuf tb) → BufTy
  | .hbm, ⟨0, _⟩ => ⟨S_, .f32⟩
  | .hbm, ⟨1, _⟩ => ⟨S32x8732x21, .f32⟩
  | .hbm, ⟨2, _⟩ => ⟨S32x8732x21, .f32⟩
  | .hbm, ⟨3, _⟩ => ⟨S32x8732x4, .f32⟩
  | .hbm, ⟨4, _⟩ => ⟨S32x8732x4, .f32⟩
  | .hbm, ⟨5, _⟩ => ⟨S32x8732x21, .f32⟩
  | .hbm, ⟨6, _⟩ => ⟨S32x8732x21, .f32⟩
  | .hbm, ⟨7, _⟩ => ⟨S32x8732x4, .f32⟩
  | .hbm, ⟨8, _⟩ => ⟨S32x8732x4, .f32⟩
  | .hbm, ⟨9, _⟩ => ⟨S16x8732x21, .f32⟩
  | .hbm, ⟨10, _⟩ => ⟨S16x8732x21, .f32⟩
  | .hbm, ⟨11, _⟩ => ⟨S32x8732x21, .f32⟩
  | .hbm, ⟨12, _⟩ => ⟨S32x8732x20, .f32⟩
  | .hbm, ⟨13, _⟩ => ⟨S_, .f32⟩
  | .hbm, ⟨14, _⟩ => ⟨S32x8732, .f32⟩
  | .hbm, ⟨15, _⟩ => ⟨S32x8732x1, .f32⟩
  | .hbm, ⟨16, _⟩ => ⟨S32x8732, .f32⟩
  | .hbm, ⟨17, _⟩ => ⟨S32x8732, .i1⟩
  | .hbm, ⟨18, _⟩ => ⟨S32x8732x20, .f32⟩
  | .hbm, ⟨19, _⟩ => ⟨S_, .f32⟩
  | .hbm, ⟨20, _⟩ => ⟨S32x8732, .f32⟩
  | .hbm, ⟨21, _⟩ => ⟨S32x8732x1, .f32⟩
  | .hbm, ⟨22, _⟩ => ⟨S32x8732, .f32⟩
  | .hbm, ⟨23, _⟩ => ⟨S32x8732, .i1⟩
  | .hbm, ⟨24, _⟩ => ⟨S32x8732, .i1⟩
  | .hbm, ⟨25, _⟩ => ⟨S32x8732, .f32⟩
  | .hbm, ⟨26, _⟩ => ⟨S_, .f32⟩
  | .hbm, ⟨27, _⟩ => ⟨S_, .f32⟩
  | .hbm, ⟨28, _⟩ => ⟨S32x8732x21, .f32⟩
  | .hbm, ⟨29, _⟩ => ⟨S32x8732x21, .f32⟩
  | .hbm, ⟨30, _⟩ => ⟨S_, .f32⟩
  | .hbm, ⟨31, _⟩ => ⟨S_, .f32⟩
  | .hbm, ⟨32, _⟩ => ⟨S32x8732x21, .f32⟩
  | .hbm, ⟨33, _⟩ => ⟨S32x8732x21, .f32⟩
  | .hbm, ⟨34, _⟩ => ⟨S32x8732x21, .f32⟩
  | .hbm, ⟨35, _⟩ => ⟨S_, .f32⟩
  | .hbm, ⟨36, _⟩ => ⟨S32x8732x21, .f32⟩
  | .hbm, ⟨37, _⟩ => ⟨S32x8732x21, .f32⟩
  | .hbm, ⟨38, _⟩ => ⟨S_, .f32⟩
  | .hbm, ⟨39, _⟩ => ⟨S32x8732x21, .f32⟩
  | .hbm, ⟨40, _⟩ => ⟨S32x8732x21, .f32⟩
  | .hbm, ⟨41, _⟩ => ⟨S32x8732x21, .f32⟩
  | .hbm, ⟨42, _⟩ => ⟨S32x8732x21, .f32⟩
  | .hbm, ⟨43, _⟩ => ⟨S32x8732x21, .f32⟩
  | .hbm, ⟨44, _⟩ => ⟨S32x8732x21, .f32⟩
  | .hbm, ⟨45, _⟩ => ⟨S_, .f32⟩
  | .hbm, ⟨46, _⟩ => ⟨S32x8732, .f32⟩
  | .hbm, ⟨47, _⟩ => ⟨S32x8732x21, .f32⟩
  | .hbm, ⟨48, _⟩ => ⟨S32x8732x21, .f32⟩
  | .hbm, ⟨49, _⟩ => ⟨S32x8732x21, .f32⟩
  | .hbm, ⟨50, _⟩ => ⟨S32x8732x21, .f32⟩
  | .hbm, ⟨51, _⟩ => ⟨S_, .f32⟩
  | .hbm, ⟨52, _⟩ => ⟨S32x8732, .f32⟩
  | .hbm, ⟨53, _⟩ => ⟨S_, .f32⟩
  | .hbm, ⟨54, _⟩ => ⟨S_, .f32⟩
  | .hbm, ⟨55, _⟩ => ⟨S32x8732, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S32x8732, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Proof.Spec.lean ====
/- The two losses as plain functions of the confidences: the loss as the kernel arranges it, and the loss
   as the reference arranges it. Rows are numbered by image, then by anchor box, and hold the
   confidences of the 21 classes, class 0 being the background. -/
module

public import Idealize.ShloMosaic.Lib.Pointwise

@[expose] public section

noncomputable section

namespace Cert.Consistency

open Idealize.ShloMosaic

/-- The greatest confidence among the 20 classes that are not the background. -/
def best (u : Fin 21 → EReal) : EReal :=
  (Finset.univ : Finset (Fin 20)).fold max ⊥ fun k => u ⟨1 + k.val, by omega⟩

/-- 1 where both rows have an object class above the background, 0 elsewhere. -/
def mask (u w : Fin 21 → EReal) : EReal := if u 0 < best u ∧ w 0 < best w then 1 else 0

/-- The offset added to every confidence: 1e-7 rounded to f32. -/
def offset : EReal := ((14073749 / 140737488355328 : ℝ) : EReal)

/-- The mixture of two confidences, offset. -/
def mixed (l a b : EReal) : EReal := l * a + (1 - l) * b + offset

/-- The kernel's term for one class: the difference of the two confidences times the logarithm of their quotient. -/
def joint (l a b x : EReal) : EReal :=
  (x + offset - mixed l a b) * Ideal.log (Ideal.div (x + offset) (mixed l a b))

/-- The reference's term for one class of the divergence of `s` from `t`. -/
def divergence (s t : EReal) : EReal := s * (Ideal.log s - Ideal.log t)

/-- Rows of confidences: image, anchor box, class. -/
abbrev Rows := Fin 32 → Fin 8732 → Fin 21 → EReal

/-- The rows of an array of confidences. -/
def rows (u : (⟨3, ![32, 8732, 21]⟩ : Shape).Idx → EReal) : Rows := fun p n k => u (ix3 p n k)

/-- The image 16 further on, around the end of the batch: where the shuffled confidences of an image come from. -/
def across (p : Fin 32) : Fin 32 := ⟨(p.val + 16) % 32, Nat.mod_lt _ (by decide)⟩

/-- The rows of an array of confidences, each image's taken from the image 16 further on. -/
def rowsAcross (u : (⟨3, ![32, 8732, 21]⟩ : Shape).Idx → EReal) : Rows := fun p n k => u (ix3 (across p) n k)

/-- How many rows the mask keeps. -/
def count (A B : Rows) : EReal := ∑ p : Fin 32, ∑ n : Fin 8732, mask (A p n) (B p n)

/-- The sum over the kept rows of a per-row quantity. -/
def kept (A B : Rows) (f : Fin 32 → Fin 8732 → EReal) : EReal :=
  ∑ p : Fin 32, ∑ n : Fin 8732, f p n * mask (A p n) (B p n)

/-- The loss as the kernel arranges it: one sum of joint terms, divided by twice the count. -/
def kernelLoss (l : EReal) (A B C : Rows) : EReal :=
  if 0 < count A B then
    Ideal.div (kept A B fun p n => ∑ k : Fin 21, joint l (A p n k) (B p n k) (C p n k)) (2 * max (count A B) 1)
  else 0

/-- The loss as the reference arranges it: the mean of the two divergences, each divided by the count. -/
def referenceLoss (l : EReal) (A B C : Rows) : EReal :=
  if 0 < count A B then
    Ideal.div
      (Ideal.div (kept A B fun p n => ∑ k : Fin 21, divergence (C p n k + offset) (mixed l (A p n k) (B p n k)))
          (max (count A B) 1)
        + Ideal.div (kept A B fun p n => ∑ k : Fin 21, divergence (mixed l (A p n k) (B p n k)) (C p n k + offset))
          (max (count A B) 1)) 2
  else 0

end Cert.Consistency
-- ==== Proof.Equation.lean ====
/- The two arrangements of the loss agree where every confidence is finite and not negative and the mixing
   weight lies between 0 and 1. -/
module

public import proofs.«01_k».proof.Proof.Spec

@[expose] public section

noncomputable section

namespace Cert.Consistency

open Idealize.ShloMosaic

/-- A sum of reals is the same sum taken among the extended reals. -/
theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mask is one of the reals 0 and 1. -/
theorem mask_real (u w : Fin 21 → EReal) : mask u w = ((if u 0 < best u ∧ w 0 < best w then 1 else 0 : ℝ) : EReal) := by
  unfold mask; split <;> simp

/-- The logarithm of a positive real is the real logarithm. -/
theorem log_real {r : ℝ} (h : 0 < r) : Ideal.log (r : EReal) = (Real.log r : EReal) := by
  show (if r ≤ 0 then (⊥ : EReal) else (Real.log r : EReal)) = _
  rw [if_neg (not_le.mpr h)]

/-- The quotient by a nonzero real is the real quotient. -/
theorem div_real (r : ℝ) {s : ℝ} (h : s ≠ 0) : Ideal.div (r : EReal) (s : EReal) = ((r / s : ℝ) : EReal) := by
  rw [Ideal.div_coe h, ← EReal.coe_mul, one_div, div_eq_mul_inv]

/-- The offset as a real number. -/
def offsetR : ℝ := 14073749 / 140737488355328

/-- The offset is positive. -/
theorem offsetR_pos : 0 < offsetR := by unfold offsetR; norm_num

/-- The mixture as a real number. -/
def mixedR (l a b : ℝ) : ℝ := l * a + (1 - l) * b + offsetR

/-- The mixture of reals is the real mixture. -/
theorem mixed_real (l a b : ℝ) : mixed l a b = (mixedR l a b : EReal) := by
  simp only [mixed, mixedR, offset, offsetR, EReal.coe_add, EReal.coe_mul, EReal.coe_sub, EReal.coe_one]

/-- The mixture of confidences that are not negative is positive. -/
theorem mixedR_pos {l a b : ℝ} (hl : 0 ≤ l) (hl1 : l ≤ 1) (ha : 0 ≤ a) (hb : 0 ≤ b) : 0 < mixedR l a b :=
  add_pos_of_nonneg_of_pos (add_nonneg (mul_nonneg hl ha) (mul_nonneg (sub_nonneg.mpr hl1) hb)) offsetR_pos

/-- The kernel's term of positive reals `s` and `t`. -/
theorem joint_real {l a b x : ℝ} (hx : 0 ≤ x) (hm : 0 < mixedR l a b) :
    joint l a b x = (((x + offsetR - mixedR l a b) * (Real.log (x + offsetR) - Real.log (mixedR l a b)) : ℝ) : EReal) := by
  have hs : 0 < x + offsetR := add_pos_of_nonneg_of_pos hx offsetR_pos
  have ho : (x : EReal) + offset = ((x + offsetR : ℝ) : EReal) := by rw [EReal.coe_add]; rfl
  rw [joint, ho, mixed_real, div_real _ hm.ne', log_real (div_pos hs hm), ← EReal.coe_sub, ← EReal.coe_mul,
    Real.log_div hs.ne' hm.ne']

/-- The reference's term of positive reals. -/
theorem divergence_real {s t : ℝ} (hs : 0 < s) (ht : 0 < t) :
    divergence s t = ((s * (Real.log s - Real.log t) : ℝ) : EReal) := by
  rw [divergence, log_real hs, log_real ht, ← EReal.coe_sub, ← EReal.coe_mul]

/-- A kept sum of real quantities is the real sum. -/
theorem kept_real (A B : Rows) (M : Fin 32 → Fin 8732 → ℝ) (hM : ∀ p n, mask (A p n) (B p n) = (M p n : EReal))
    (f : Fin 32 → Fin 8732 → EReal) (g : Fin 32 → Fin 8732 → Fin 21 → ℝ)
    (hf : ∀ p n, f p n = ∑ k, (g p n k : EReal)) :
    kept A B f = ((∑ p, ∑ n, (∑ k, g p n k) * M p n : ℝ) : EReal) := by
  unfold kept
  rw [coe_total]
  refine Finset.sum_congr rfl fun p _ => ?_
  rw [coe_total]
  refine Finset.sum_congr rfl fun n _ => ?_
  rw [hM, hf, ← coe_total, ← EReal.coe_mul]

/-- The equation: for confidences that are finite and not negative, and a weight between 0 and 1, the loss as the
    kernel arranges it is the loss as the reference arranges it. -/
theorem losses_agree (l : EReal) (A B C : Rows) (hl : 0 ≤ l) (hl1 : l ≤ 1)
    (hA : ∀ p n k, 0 ≤ A p n k ∧ A p n k < ⊤) (hB : ∀ p n k, 0 ≤ B p n k ∧ B p n k < ⊤)
    (hC : ∀ p n k, 0 ≤ C p n k ∧ C p n k < ⊤) : kernelLoss l A B C = referenceLoss l A B C := by
  have lift : ∀ x : EReal, 0 ≤ x → x < ⊤ → ∃ r : ℝ, 0 ≤ r ∧ x = (r : EReal) := fun x h0 h1 =>
    ⟨x.toReal, EReal.toReal_nonneg h0, (EReal.coe_toReal h1.ne (ne_of_gt (lt_of_lt_of_le EReal.bot_lt_zero h0))).symm⟩
  obtain ⟨r, hr, rfl⟩ := lift l hl (lt_of_le_of_lt hl1 (EReal.coe_lt_top 1))
  have hr1 : r ≤ 1 := by exact_mod_cast hl1
  choose a ha ha' using fun p n k => lift _ (hA p n k).1 (hA p n k).2
  choose b hb hb' using fun p n k => lift _ (hB p n k).1 (hB p n k).2
  choose c hc hc' using fun p n k => lift _ (hC p n k).1 (hC p n k).2
  have hm : ∀ p n k, 0 < mixedR r (a p n k) (b p n k) := fun p n k => mixedR_pos hr hr1 (ha p n k) (hb p n k)
  have hs : ∀ p n k, 0 < c p n k + offsetR := fun p n k => add_pos_of_nonneg_of_pos (hc p n k) offsetR_pos
  have hcs : ∀ p n k, C p n k + offset = ((c p n k + offsetR : ℝ) : EReal) := fun p n k => by
    rw [hc', EReal.coe_add]; rfl
  have hmx : ∀ p n k, mixed r (A p n k) (B p n k) = (mixedR r (a p n k) (b p n k) : EReal) := fun p n k => by
    rw [ha', hb', mixed_real]
  obtain ⟨M, hM⟩ : ∃ M : Fin 32 → Fin 8732 → ℝ, ∀ p n, mask (A p n) (B p n) = (M p n : EReal) :=
    ⟨_, fun p n => mask_real (A p n) (B p n)⟩
  have hN : count A B = ((∑ p, ∑ n, M p n : ℝ) : EReal) := by
    unfold count
    rw [coe_total]
    refine Finset.sum_congr rfl fun p _ => ?_
    rw [coe_total]
    exact Finset.sum_congr rfl fun n _ => hM p n
  unfold kernelLoss referenceLoss
  by_cases h0 : 0 < count A B
  · rw [if_pos h0, if_pos h0]
    rw [kept_real A B M hM _ _ fun p n => Finset.sum_congr rfl fun k _ =>
        (by rw [ha', hb', hc']; exact joint_real (hc p n k) (hm p n k)),
      kept_real A B M hM _ _ fun p n => Finset.sum_congr rfl fun k _ =>
        (by rw [hcs, hmx]; exact divergence_real (hs p n k) (hm p n k)),
      kept_real A B M hM _ _ fun p n => Finset.sum_congr rfl fun k _ =>
        (by rw [hcs, hmx]; exact divergence_real (hm p n k) (hs p n k)), hN]
    generalize (∑ p, ∑ n, M p n) = N
    have hd : max (N : EReal) 1 = ((max N 1 : ℝ) : EReal) := by
      rcases le_total N 1 with h | h
      · rw [max_eq_right h, max_eq_right (by exact_mod_cast h)]; rfl
      · rw [max_eq_left h, max_eq_left (by exact_mod_cast h)]
    have hd0 : (max N 1 : ℝ) ≠ 0 := (lt_of_lt_of_le one_pos (le_max_right N 1)).ne'
    have h2 : (2 : EReal) = ((2 : ℝ) : EReal) := rfl
    rw [hd, h2, ← EReal.coe_mul, div_real _ (mul_ne_zero two_ne_zero hd0), div_real _ hd0, div_real _ hd0,
      ← EReal.coe_add, div_real _ two_ne_zero, ← add_div, div_div, mul_comm (2 : ℝ)]
    refine congrArg (fun z : ℝ => ((z / (max N 1 * 2) : ℝ) : EReal)) ?_
    rw [← Finset.sum_add_distrib]
    refine Finset.sum_congr rfl fun p _ => ?_
    rw [← Finset.sum_add_distrib]
    refine Finset.sum_congr rfl fun n _ => ?_
    rw [← add_mul, ← Finset.sum_add_distrib]
    refine congrArg (· * M p n) ?_
    refine Finset.sum_congr rfl fun k _ => ?_
    ring
  · rw [if_neg h0, if_neg h0]

end Cert.Consistency
-- ==== Proof.Words.lean ====
/- The printed constants and the converted comparisons of the two programs as extended reals. -/
module

public import proofs.«01_k».proof.Proof.Spec

@[expose] public section

noncomputable section

namespace Cert.Consistency

open Idealize.ShloMosaic

/-- The bf16 word a row maximum starts from is minus infinity. -/
theorem bottom_bf16 : Ideal.ofBits .bf16 0xFF80#16 = ⊥ := by simp [Ideal.ofBits, Ideal.ieee]

/-- The f32 word a row maximum starts from is minus infinity. -/
theorem bottom_f32 : Ideal.ofBits .f32 0xFF800000#32 = ⊥ := by simp [Ideal.ofBits, Ideal.ieee]

/-- The f32 word of plus infinity. -/
theorem top_f32 : Ideal.ofBits .f32 0x7F800000#32 = ⊤ := by simp [Ideal.ofBits, Ideal.ieee]

/-- The f32 word of 2. -/
theorem two_f32 : Ideal.ofBits .f32 0x40000000#32 = 2 := by
  simp only [Ideal.ofBits, Ideal.ieee]
  simp
  rw [← EReal.coe_mul]
  norm_num
  rfl

/-- The f32 word of the offset holds the offset. -/
theorem offset_f32 : Ideal.ofBits .f32 0x33D6BF95#32 = offset := by
  simp [Ideal.ofBits, Ideal.ieee, offset]
  rw [← EReal.coe_mul]
  norm_num

/-- The conjunction of two comparisons, widened to a word and converted: 1 where both hold, 0 elsewhere. -/
theorem both_sitofp (p q : Prop) [Decidable p] [Decidable q] :
    (FloatOps.sitofp .f32 (BitVec.setWidth 32 (IntOp.andi (BitVec.ofBool (decide p)) (BitVec.ofBool (decide q)))) : Ideal .f32)
      = if p ∧ q then 1 else 0 := by
  by_cases hp : p <;> by_cases hq : q <;> simp [hp, hq, FloatOps.sitofp, IntOp.andi]

/-- The conjunction of two comparisons converted as it stands: 1 where both hold, 0 elsewhere. -/
theorem both_uitofp (p q : Prop) [Decidable p] [Decidable q] :
    (FloatOps.uitofp .f32 (IntOp.andi (BitVec.ofBool (decide p)) (BitVec.ofBool (decide q))) : Ideal .f32)
      = if p ∧ q then 1 else 0 := by
  by_cases hp : p <;> by_cases hq : q <;> simp [hp, hq, FloatOps.uitofp, IntOp.andi]

end Cert.Consistency
-- ==== Proof.Body.lean ====
/- What the kernel's body leaves in its two one-element accumulators at one grid point, in each of the
   body's three cases: at the first point (both are zeroed first), between, and at the last point (the
   first one is turned into the loss). -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] [Named F]

/-- The offsets of a whole rank-two block are zero. -/
theorem off2 : (![0, 0] : Fin 2 → Nat) = fun _ => 0 := funext fun a => by fin_cases a <;> rfl
/-- The offset of a whole rank-one block is zero. -/
theorem off1 : (![0] : Fin 1 → Nat) = fun _ => 0 := funext fun a => by fin_cases a; rfl
/-- The offsets of a whole rank-three block are zero. -/
theorem off3 : (![0, 0, 0] : Fin 3 → Nat) = fun _ => 0 := funext fun a => by fin_cases a <;> rfl

/-- The one index of a one-element vector. -/
abbrev cell1 : S1.Idx := fun _ => ⟨0, by decide +revert⟩
/-- The one index of a one-by-one block. -/
abbrev cell2 : S1x1.Idx := fun _ => ⟨0, by decide +revert⟩

/-- Every index of a one-by-one block is its one index. -/
theorem eq_cell2 (j : S1x1.Idx) : j = cell2 := funext fun a => Fin.ext (by
  have := (j a).isLt
  match a with
  | ⟨0, _⟩ => exact Nat.lt_one_iff.mp this
  | ⟨1, _⟩ => exact Nat.lt_one_iff.mp this)

/-- A load of one element of a one-element vector reads its one element. -/
theorem ld_cell1 (x : Vec F S1 .f32) (r : Rect S1) (j : r.shape.Idx) : View.ld x r j = x cell1 :=
  congrArg x (funext fun a => Fin.ext (by
    match a with
    | ⟨0, _⟩ => exact Nat.lt_one_iff.mp (Fin.isLt _)))

/-- A load of one element of a one-by-one block reads its one element. -/
theorem ld_cell2 (x : Vec F S1x1 .f32) (r : Rect S1x1) (j : r.shape.Idx) : View.ld x r j = x cell2 :=
  congrArg x (eq_cell2 _)

section
variable (c : Dev nD) (i : grid0.Coords) (a1 : Memref sig .tc .smem S1 .f32) (h1 : a1.IsWhole)
  (a2 : Memref sig .tc .vmem S2x21x8732 .bf16) (h2 : a2.IsWhole) (a3 : Memref sig .tc .vmem S2x21x8732 .bf16) (h3 : a3.IsWhole)
  (a4 : Memref sig .tc .vmem S2x21x8732 .bf16) (h4 : a4.IsWhole) (a5 : Memref sig .tc .smem S1x1 .f32) (h5 : a5.IsWhole)
  (a6 : Memref sig .tc .smem S1x1 .f32) (h6 : a6.IsWhole)
  (x0 : Vec F S1 .f32) (x1 x2 x3 : Vec F S2x21x8732 .bf16) (xo4 xo5 : Vec F S1x1 .f32)

/-- Between the ends, the first accumulator gains the block's masked divergence. -/
theorem out_B_4 (hc0 : ¬cond0_0 i) (hc1 : ¬cond0_1 i) :
    out0_B_4 c i a1 h1 a2 h2 a3 h3 a4 h4 a5 h5 a6 h6 hc0 hc1 x0 x1 x2 x3 xo4 xo5
      = fun _ => k0_pay1 (k0_pay6 (x0 cell1) x1 x2 x3) (k0_pay7 x1 x2) (xo4 cell2) := by
  unfold out0_B_4
  rw [View.read_writes_eq_canon _ _ _ (cover0_B_4 c i a1 h1 a2 h2 a3 h3 a4 h4 a5 h5 a6 h6 hc0 hc1 x0 x1 x2 x3 xo4 xo5)]
  unfold kernelRun0_B
  dsimp only
  sl_unfold_words
  rw [View.canon_unit_zero off2]
  simp only [View.readAt_eq_ld, h1.read_unread, h2.read_unread, h3.read_unread, h4.read_unread, h5.read_unread,
    h6.read_unread, View.ld_unit_zero (S := S2x21x8732) off3]
  exact funext fun _ => congrArg₂ (fun v w => k0_pay1 (k0_pay6 v x1 x2 x3) (k0_pay7 x1 x2) w) (ld_cell1 x0 _ _) (ld_cell2 xo4 _ _)

/-- Between the ends, the second accumulator gains the block's count. -/
theorem out_B_5 (hc0 : ¬cond0_0 i) (hc1 : ¬cond0_1 i) :
    out0_B_5 c i a1 h1 a2 h2 a3 h3 a4 h4 a5 h5 a6 h6 hc0 hc1 x0 x1 x2 x3 xo4 xo5
      = fun _ => k0_pay2 (k0_pay7 x1 x2) (xo5 cell2) := by
  unfold out0_B_5
  rw [View.read_writes_eq_canon _ _ _ (cover0_B_5 c i a1 h1 a2 h2 a3 h3 a4 h4 a5 h5 a6 h6 hc0 hc1 x0 x1 x2 x3 xo4 xo5)]
  unfold kernelRun0_B
  dsimp only
  sl_unfold_words
  rw [View.canon_unit_zero off2]
  simp only [View.readAt_eq_ld, h1.read_unread, h2.read_unread, h3.read_unread, h4.read_unread, h5.read_unread,
    h6.read_unread, View.ld_unit_zero (S := S2x21x8732) off3]
  exact funext fun _ => congrArg (k0_pay2 (k0_pay7 x1 x2)) (ld_cell2 xo5 _ _)

/-- At the first point, the first accumulator is the block's masked divergence added to zero. -/
theorem out_A_4 (hc0 : cond0_0 i) (hc1 : ¬cond0_1 i) :
    out0_A_4 c i a1 h1 a2 h2 a3 h3 a4 h4 a5 h5 a6 h6 hc0 hc1 x0 x1 x2 x3
      = fun _ => k0_pay1 (k0_pay6 (x0 cell1) x1 x2 x3) (k0_pay7 x1 x2) (Scalar.ofBits .f32 0x00000000#32) := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  sl_unfold_words
  rw [View.canon_cons_unit_zero (S := S1x1) off2]
  try simp only [View.readCov_unit_zero (S := S1x1) _ off2]
  simp only [View.readAt_eq_ld, h1.read_unread, h2.read_unread, h3.read_unread, h4.read_unread, h5.read_unread,
    h6.read_unread, View.ld_unit_zero (S := S2x21x8732) off3]
  exact funext fun _ => congrArg (fun v => k0_pay1 (k0_pay6 v x1 x2 x3) (k0_pay7 x1 x2) _) (ld_cell1 x0 _ _)

/-- At the first point, the second accumulator is the block's count added to zero. -/
theorem out_A_5 (hc0 : cond0_0 i) (hc1 : ¬cond0_1 i) :
    out0_A_5 c i a1 h1 a2 h2 a3 h3 a4 h4 a5 h5 a6 h6 hc0 hc1 x0 x1 x2 x3
      = fun _ => k0_pay2 (k0_pay7 x1 x2) (Scalar.ofBits .f32 0x00000000#32) := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  sl_unfold_words
  rw [View.canon_cons_unit_zero (S := S1x1) off2]
  try simp only [View.readCov_unit_zero (S := S1x1) _ off2]
  simp only [View.readAt_eq_ld, h1.read_unread, h2.read_unread, h3.read_unread, h4.read_unread, h5.read_unread,
    h6.read_unread, View.ld_unit_zero (S := S2x21x8732) off3]
  rfl

/-- At the last point, the first accumulator ends at the loss of the two totals. -/
theorem out_C_4 (hc0 : ¬cond0_0 i) (hc1 : cond0_1 i) :
    out0_C_4 c i a1 h1 a2 h2 a3 h3 a4 h4 a5 h5 a6 h6 hc0 hc1 x0 x1 x2 x3 xo4 xo5
      = fun _ => k0_pay3 (k0_pay1 (k0_pay6 (x0 cell1) x1 x2 x3) (k0_pay7 x1 x2) (xo4 cell2))
          (k0_pay2 (k0_pay7 x1 x2) (xo5 cell2)) := by
  unfold out0_C_4
  rw [View.read_writes_eq_canon _ _ _ (cover0_C_4 c i a1 h1 a2 h2 a3 h3 a4 h4 a5 h5 a6 h6 hc0 hc1 x0 x1 x2 x3 xo4 xo5)]
  unfold kernelRun0_C
  dsimp only
  sl_unfold_words
  rw [View.canon_cons_unit_zero (S := S1x1) off2]
  try simp only [View.readCov_unit_zero (S := S1x1) _ off2]
  simp only [View.readAt_eq_ld, h1.read_unread, h2.read_unread, h3.read_unread, h4.read_unread, h5.read_unread,
    h6.read_unread, View.ld_unit_zero (S := S2x21x8732) off3]
  exact funext fun _ => congrArg₂ k0_pay3
    (congrArg₂ (fun v w => k0_pay1 (k0_pay6 v x1 x2 x3) (k0_pay7 x1 x2) w) (ld_cell1 x0 _ _) (ld_cell2 xo4 _ _))
    (congrArg (k0_pay2 (k0_pay7 x1 x2)) (ld_cell2 xo5 _ _))

/-- At the last point, the second accumulator gains the block's count. -/
theorem out_C_5 (hc0 : ¬cond0_0 i) (hc1 : cond0_1 i) :
    out0_C_5 c i a1 h1 a2 h2 a3 h3 a4 h4 a5 h5 a6 h6 hc0 hc1 x0 x1 x2 x3 xo4 xo5
      = fun _ => k0_pay2 (k0_pay7 x1 x2) (xo5 cell2) := by
  unfold out0_C_5
  rw [View.read_writes_eq_canon _ _ _ (cover0_C_5 c i a1 h1 a2 h2 a3 h3 a4 h4 a5 h5 a6 h6 hc0 hc1 x0 x1 x2 x3 xo4 xo5)]
  unfold kernelRun0_C
  dsimp only
  sl_unfold_words
  rw [View.canon_unit_zero off2]
  simp only [View.readAt_eq_ld, h1.read_unread, h2.read_unread, h3.read_unread, h4.read_unread, h5.read_unread,
    h6.read_unread, View.ld_unit_zero (S := S2x21x8732) off3]
  exact funext fun _ => congrArg (k0_pay2 (k0_pay7 x1 x2)) (ld_cell2 xo5 _ _)

end

end Cert.KernelIdeal.Value

end
-- ==== Proof.KernelRun.lean ====
/- What the whole kernel program leaves in its result: the loss of the two totals, each total the ordered
   chain of what the sixteen grid points add. -/
module

public import proofs.«01_k».proof.Proof.Body

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The first total after point `t`'s block is added to `acc`. -/
def addSum (c : Dev nD) (t : Fin cfg0.N) (acc : F .f32) : F .f32 :=
  k0_pay1 (k0_pay6 ((iblk m c 0 t : Vec F S1 .f32) cell1) (iblk m c 1 t) (iblk m c 2 t) (iblk m c 3 t))
    (k0_pay7 (iblk m c 1 t) (iblk m c 2 t)) acc

/-- The second total after point `t`'s block is added to `acc`. -/
def addCnt (c : Dev nD) (t : Fin cfg0.N) (acc : F .f32) : F .f32 :=
  k0_pay2 (k0_pay7 (iblk m c 1 t) (iblk m c 2 t)) acc

/-- The first total after point `n`, from zero. -/
def sumAt (c : Dev nD) : (n : ℕ) → n < cfg0.N → F .f32
  | 0, h => addSum m c ⟨0, h⟩ (Scalar.ofBits .f32 0x00000000#32)
  | n + 1, h => addSum m c ⟨n + 1, h⟩ (sumAt c n (Nat.lt_of_succ_lt h))

/-- The second total after point `n`, from zero. -/
def cntAt (c : Dev nD) : (n : ℕ) → n < cfg0.N → F .f32
  | 0, h => addCnt m c ⟨0, h⟩ (Scalar.ofBits .f32 0x00000000#32)
  | n + 1, h => addCnt m c ⟨n + 1, h⟩ (cntAt c n (Nat.lt_of_succ_lt h))

/-- Before the last point the two accumulators hold the two totals so far. -/
theorem outsAt_eq (c : Dev nD) : ∀ (n : ℕ) (h : n < cfg0.N), n < 15 →
    outsAt0 m c n h = (fun _ => sumAt m c n h, fun _ => cntAt m c n h)
  | 0, h, _ => by
    refine (outsAt0_A m c ⟨0, h⟩ rfl (by dsimp only; decide)).trans ?_
    rw [out_A_4, out_A_5]
    rfl
  | n + 1, h, hn => by
    have h0 : ¬(⟨n + 1, h⟩ : Fin cfg0.N).val % 16 = 0 := by dsimp only; omega
    have h1 : ¬(⟨n + 1, h⟩ : Fin cfg0.N).val % 16 = 15 := by dsimp only; omega
    rw [outsAt0_B m c ⟨n + 1, h⟩ h0 h1, out_B_4, out_B_5]
    simp only [Nat.add_sub_cancel]
    rw [outsAt_eq c n (Nat.lt_of_succ_lt h) (by omega)]
    rfl

/-- The last grid point. -/
theorem last_lt : 15 < cfg0.N := by rw [show cfg0.N = 16 from N_0]; decide

/-- The loss of the two totals. -/
def loss (c : Dev nD) : F .f32 := k0_pay3 (sumAt m c 15 last_lt) (cntAt m c 15 last_lt)

/-- At the last point the first accumulator is left at the loss. -/
theorem outsAt_last (c : Dev nD) : (outsAt0 m c 15 last_lt).1 = fun _ => loss m c := by
  rw [outsAt0_C m c ⟨15, last_lt⟩ (by decide) (by decide), out_C_4]
  simp only [show (15 : ℕ) - 1 = 14 from rfl]
  rw [outsAt_eq m c 14 (Nat.lt_of_succ_lt last_lt) (by decide)]
  rfl

/-- The accumulators' array, written back at the last point only, ends at the loss. -/
theorem final_sum (c : Dev nD) : (dats m 0 c).arrAt 4 cfg0.N = fun _ => loss m c :=
  (dats m 0 c).arrAt_eq_of_cover 4 (fun _ => loss m c)
    (fun t hf => by
      have h15 : t.val = 15 := by have := (flush0_4 t).mp hf; have := t.isLt.trans_eq N_0; omega
      obtain rfl : t = ⟨15, last_lt⟩ := Fin.ext h15
      show (cfg0.win 4).cut (grid0.coords _) ((dats m 0 c).after 4 _) = _
      rw [after0_4, outsAt_last]
      rfl)
    fun i => ⟨⟨15, last_lt⟩, (flush0_4 _).mpr rfl, by
      show i ∈ ((View.whole main_v7_0).slice (win0_4.rect ⟨15, last_lt⟩)).set
      rw [View.set_slice_whole, Rect.mem_set_unit]
      intro a
      have ha : (i a : ℕ) < 1 := by
        match a with
        | ⟨0, _⟩ => exact (i 0).isLt
        | ⟨1, _⟩ => exact (i 1).isLt
      have h0 : win0_4.index ⟨15, last_lt⟩ a * win0_4.size a = 0 := by clear ha; revert a; decide +kernel
      have h1 : win0_4.xsize (grid0.coords ⟨15, last_lt⟩) a = 1 := by clear ha h0; revert a; decide +kernel
      show win0_4.index ⟨15, last_lt⟩ a * win0_4.size a ≤ (i a : ℕ) ∧
        (i a : ℕ) < win0_4.index ⟨15, last_lt⟩ a * win0_4.size a + win0_4.xsize (grid0.coords ⟨15, last_lt⟩) a
      omega⟩

/-- The reshape after the region leaves the loss in the result. -/
theorem tail_eq (c : Dev nD) :
    Pipeline.afterTail₀ cfgs (dats m) 0 (V0 m) [hostOps1] c main_v8 = fun _ => loss m c := by
  unfold Pipeline.afterTail₀
  simp only [hostOps1, List.flatten_cons, List.flatten_nil, List.append_nil, StableHlo.after_cons, StableHlo.after_nil]
  rw [StableHlo.reshape_result]
  have := Pipeline.withArrays_arr (τ := τ) spec0 (by decide +kernel) c (V0 m c) (fun w => (dats m 0 c).arrAt w cfg0.N) 4
  rw [final_sum] at this
  funext i
  exact congrFun this _

/-- The program's run, read: the result at the loss, the arguments unchanged. -/
theorem run : θ_run defs (onTc (τ := τ) (main (F := F))) ⟨m, fun _ => 0, ρ⟩ fun r => ∀ c : Dev nD,
      r.2.mem ((c.tc : Thread nD τ).loc main_v8) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.1 c).2 main_v8 (Pipeline.mem_restRefs_of main_v8 (by decide) (by decide))).trans (tail_eq m c), h.2 c⟩)
    (θ_run_and (run_main m ρ) (unchanged m ρ))

end Cert.KernelIdeal.Value

end
-- ==== Proof.BlockSum.lean ====
/- What one grid point adds to the two totals at the extended reals, and what the loss is of the totals. -/
module

public import proofs.«01_k».proof.Proof.Words
public import proofs.«01_k».proof.Proof.KernelRun

@[expose] public section

set_option maxRecDepth 16384

noncomputable section

namespace Cert.KernelIdeal.Value

open Cert.KernelIdeal Cert.KernelIdeal.Gen Idealize.ShloMosaic Idealize.ShloMosaic.TcCoe Idealize.SL.Sem
open Cert.Consistency (mask joint offset)

/-- The named constant of the kernel is the offset. -/
theorem named_offset (w : BitVec 16) : (Named.named κ "eps" w : Ideal .bf16) = offset := rfl

/-- The mask of a block, at one row: the mask of the row of the first block and the row of the second. -/
theorem pay7_apply (v w : Vec Ideal S2x21x8732 .bf16) (i : Fin 2) (n : Fin 8732) :
    k0_pay7 v w (ix3 i 0 n) = mask (fun k => v (ix3 i k n)) (fun k => w (ix3 i k n)) := by
  pointwise [k0_pay7, k0_pay4, k0_pay5]
  rw [Cert.Consistency.both_sitofp, Cert.Consistency.bottom_bf16]
  rfl

/-- The elementwise quantity of a block, at one element: the joint term of the three blocks' elements. -/
theorem pay6_apply (l : Ideal .f32) (v w x : Vec Ideal S2x21x8732 .bf16) (i : Fin 2) (k : Fin 21) (n : Fin 8732) :
    k0_pay6 l v w x (ix3 i k n) = joint l (v (ix3 i k n)) (w (ix3 i k n)) (x (ix3 i k n)) := by
  pointwise [k0_pay6, k0_pay4, k0_pay5]
  rw [named_offset]
  rfl

/-- The reduction of one quantity per row to a single number is the sum over the block's rows. -/
theorem rows_total (w : FVec Ideal S2x1x8732 .f32) (j : S1.Idx) :
    Ideal.reduceAdd reduces_S1x2x1x8732_S1 (shapeCast S1x2x1x8732 w shapeCasts_S2x1x8732_S1x2x1x8732) j
      = ∑ i : Fin 2, ∑ n : Fin 8732, w (ix3 i 0 n) := by
  rw [Ideal.reduceAdd_total _ (by decide), sum_idx4]
  pointwise
  simp only [Finset.univ_unique, Finset.sum_singleton]

/-- The first total gains the sum over the block's rows of the row's sum over classes, times the row's mask. -/
theorem pay1_apply (v : FVec Ideal S2x21x8732 .f32) (w : FVec Ideal S2x1x8732 .f32) (a : Ideal .f32) :
    k0_pay1 v w a = a + ∑ i : Fin 2, ∑ n : Fin 8732, (∑ k : Fin 21, v (ix3 i k n)) * w (ix3 i 0 n) := by
  pointwise [k0_pay1]
  rw [rows_total]
  pointwise

/-- The second total gains the sum of the block's mask. -/
theorem pay2_apply (w : FVec Ideal S2x1x8732 .f32) (a : Ideal .f32) :
    k0_pay2 w a = a + ∑ i : Fin 2, ∑ n : Fin 8732, w (ix3 i 0 n) := by
  pointwise [k0_pay2]
  rw [rows_total]

/-- The loss of the two totals. -/
theorem pay3_apply (a b : EReal) :
    k0_pay3 (F := Ideal) a b = if 0 < b then Ideal.div a (2 * max b 1) else (0 : EReal) := by
  pointwise [k0_pay3]
  rw [Cert.Consistency.two_f32]

end Cert.KernelIdeal.Value
-- ==== Proof.Blocks.lean ====
/- What the kernel's windows read at a grid point, in terms of the program's arguments, at the extended reals. -/
module

public import proofs.«01_k».proof.Proof.BlockSum

@[expose] public section

set_option maxRecDepth 16384

noncomputable section

namespace Cert.KernelIdeal.Value

open Cert.KernelIdeal Cert.KernelIdeal.Gen Idealize.ShloMosaic Idealize.ShloMosaic.TcCoe Idealize.SL.Sem
open Cert.Consistency (across)

variable (m : (ℓ : Loc nD τ sig) → Buf (Elt Ideal) ℓ)

/-- The confidences the first array window reads, class before anchor box: the first confidence argument transposed. -/
theorem array_conf (c : Dev nD) (p : Fin 32) (k : Fin 21) (n : Fin 8732) :
    (V m c main_v2 : Vec Ideal S32x21x8732 .bf16) (ix3 p k n)
      = (m ((c.tc : Thread nD τ).loc main_arg1) : Vec Ideal S32x8732x21 .f32) (ix3 p n k) := by
  unfold V V0
  simp only [hostOps0, List.flatten_cons, List.flatten_nil, List.append_nil]
  after_results_simp
  pointwise

/-- The second array window's array: the confidences to be shuffled, transposed. -/
theorem array_shuffle (c : Dev nD) (p : Fin 32) (k : Fin 21) (n : Fin 8732) :
    (V m c main_v4 : Vec Ideal S32x21x8732 .bf16) (ix3 p k n)
      = (m ((c.tc : Thread nD τ).loc main_arg5) : Vec Ideal S32x8732x21 .f32) (ix3 p n k) := by
  unfold V V0
  simp only [hostOps0, List.flatten_cons, List.flatten_nil, List.append_nil]
  after_results_simp
  pointwise

/-- The third array window's array: the interpolated confidences, transposed. -/
theorem array_interp (c : Dev nD) (p : Fin 32) (k : Fin 21) (n : Fin 8732) :
    (V m c main_v6 : Vec Ideal S32x21x8732 .bf16) (ix3 p k n)
      = (m ((c.tc : Thread nD τ).loc main_arg6) : Vec Ideal S32x8732x21 .f32) (ix3 p n k) := by
  unfold V V0
  simp only [hostOps0, List.flatten_cons, List.flatten_nil, List.append_nil]
  after_results_simp
  pointwise

/-- The scalar window's array holds the mixing weight. -/
theorem array_weight (c : Dev nD) :
    (V m c main_v0 : Vec Ideal S1 .f32) cell1 = (m ((c.tc : Thread nD τ).loc main_arg0) : Vec Ideal S_ .f32) ix0 := by
  unfold V V0
  simp only [hostOps0, List.flatten_cons, List.flatten_nil, List.append_nil]
  after_results_simp
  pointwise

/-- The first image's block index at a grid point. -/
theorem index_conf (t : Fin cfg0.N) : win0_1.index t 0 = t.val ∧ win0_1.index t 1 = 0 ∧ win0_1.index t 2 = 0 := by
  revert t; decide +kernel

/-- The shuffled operand's block index at a grid point: eight points further on, around the grid's end. -/
theorem index_shuffle (t : Fin cfg0.N) :
    win0_2.index t 0 = (t.val + 8) % 16 ∧ win0_2.index t 1 = 0 ∧ win0_2.index t 2 = 0 := by
  revert t; decide +kernel

/-- The interpolated operand's block index at a grid point. -/
theorem index_interp (t : Fin cfg0.N) : win0_3.index t 0 = t.val ∧ win0_3.index t 1 = 0 ∧ win0_3.index t 2 = 0 := by
  revert t; decide +kernel

/-- The image that row `i` of grid point `t`'s block belongs to. -/
def image (t : Fin cfg0.N) (i : Fin 2) : Fin 32 := ⟨2 * t.val + i.val, by have := t.isLt; have h : cfg0.N = 16 := N_0; omega⟩

/-- The first array window at a grid point reads two images' confidences. -/
theorem block_conf (c : Dev nD) (t : Fin cfg0.N) (i : Fin 2) (k : Fin 21) (n : Fin 8732) :
    (iblk m c 1 t : Vec Ideal S2x21x8732 .bf16) (ix3 i k n)
      = (m ((c.tc : Thread nD τ).loc main_arg1) : Vec Ideal S32x8732x21 .f32) (ix3 (image t i) n k) := by
  refine Eq.trans ?_ (array_conf m c (image t i) k n)
  unfold iblk
  rw [View.read_apply]
  refine congrArg (V m c main_v2 : Vec Ideal S32x21x8732 .bf16) (funext fun a => Fin.ext ?_)
  obtain ⟨h0, h1, h2⟩ := index_conf t
  match a with
  | ⟨0, _⟩ => show win0_1.index t 0 * 2 + 1 * i.val = 2 * t.val + i.val; rw [h0]; omega
  | ⟨1, _⟩ => show win0_1.index t 1 * 21 + 1 * k.val = k.val; rw [h1]; omega
  | ⟨2, _⟩ => show win0_1.index t 2 * 8732 + 1 * n.val = n.val; rw [h2]; omega

/-- The second array window at a grid point reads the two images 16 further on. -/
theorem block_shuffle (c : Dev nD) (t : Fin cfg0.N) (i : Fin 2) (k : Fin 21) (n : Fin 8732) :
    (iblk m c 2 t : Vec Ideal S2x21x8732 .bf16) (ix3 i k n)
      = (m ((c.tc : Thread nD τ).loc main_arg5) : Vec Ideal S32x8732x21 .f32) (ix3 (across (image t i)) n k) := by
  refine Eq.trans ?_ (array_shuffle m c (across (image t i)) k n)
  unfold iblk
  rw [View.read_apply]
  refine congrArg (V m c main_v4 : Vec Ideal S32x21x8732 .bf16) (funext fun a => Fin.ext ?_)
  obtain ⟨h0, h1, h2⟩ := index_shuffle t
  match a with
  | ⟨0, _⟩ => show win0_2.index t 0 * 2 + 1 * i.val = (2 * t.val + i.val + 16) % 32; rw [h0]; omega
  | ⟨1, _⟩ => show win0_2.index t 1 * 21 + 1 * k.val = k.val; rw [h1]; omega
  | ⟨2, _⟩ => show win0_2.index t 2 * 8732 + 1 * n.val = n.val; rw [h2]; omega

/-- The third array window at a grid point reads two images' interpolated confidences. -/
theorem block_interp (c : Dev nD) (t : Fin cfg0.N) (i : Fin 2) (k : Fin 21) (n : Fin 8732) :
    (iblk m c 3 t : Vec Ideal S2x21x8732 .bf16) (ix3 i k n)
      = (m ((c.tc : Thread nD τ).loc main_arg6) : Vec Ideal S32x8732x21 .f32) (ix3 (image t i) n k) := by
  refine Eq.trans ?_ (array_interp m c (image t i) k n)
  unfold iblk
  rw [View.read_apply]
  refine congrArg (V m c main_v6 : Vec Ideal S32x21x8732 .bf16) (funext fun a => Fin.ext ?_)
  obtain ⟨h0, h1, h2⟩ := index_interp t
  match a with
  | ⟨0, _⟩ => show win0_3.index t 0 * 2 + 1 * i.val = 2 * t.val + i.val; rw [h0]; omega
  | ⟨1, _⟩ => show win0_3.index t 1 * 21 + 1 * k.val = k.val; rw [h1]; omega
  | ⟨2, _⟩ => show win0_3.index t 2 * 8732 + 1 * n.val = n.val; rw [h2]; omega

/-- The one-element array has one index. -/
theorem only_cell1 (j : S1.Idx) : j = cell1 := funext fun a => by
  match a with
  | ⟨0, _⟩ => exact Subsingleton.elim (α := Fin 1) _ _

/-- The scalar window at every grid point reads the mixing weight. -/
theorem block_weight (c : Dev nD) (t : Fin cfg0.N) :
    (iblk m c 0 t : Vec Ideal S1 .f32) cell1 = (m ((c.tc : Thread nD τ).loc main_arg0) : Vec Ideal S_ .f32) ix0 := by
  refine Eq.trans ?_ (array_weight m c)
  unfold iblk
  rw [View.read_apply]
  exact congrArg (V m c main_v0 : Vec Ideal S1 .f32) (only_cell1 _)

end Cert.KernelIdeal.Value
-- ==== Proof.KernelSum.lean ====
/- The kernel's result at the extended reals: the loss as the kernel arranges it, of the arguments' rows. -/
module

public import proofs.«01_k».proof.Proof.Blocks

@[expose] public section

set_option maxRecDepth 16384

noncomputable section

namespace Cert.KernelIdeal.Value

open Cert.KernelIdeal Cert.KernelIdeal.Gen Idealize.ShloMosaic Idealize.ShloMosaic.TcCoe Idealize.SL.Sem
open Cert.Consistency (mask joint rows rowsAcross)

variable (m : (ℓ : Loc nD τ sig) → Buf (Elt Ideal) ℓ)

/-- The mixing weight. -/
def weight (c : Dev nD) : EReal := (m ((c.tc : Thread nD τ).loc main_arg0) : Vec Ideal S_ .f32) ix0

/-- The rows of the confidences. -/
def conf (c : Dev nD) : Cert.Consistency.Rows := rows (m ((c.tc : Thread nD τ).loc main_arg1) : Vec Ideal S32x8732x21 .f32)

/-- The rows of the shuffled confidences. -/
def shuf (c : Dev nD) : Cert.Consistency.Rows :=
  rowsAcross (m ((c.tc : Thread nD τ).loc main_arg5) : Vec Ideal S32x8732x21 .f32)

/-- The rows of the interpolated confidences. -/
def interp (c : Dev nD) : Cert.Consistency.Rows := rows (m ((c.tc : Thread nD τ).loc main_arg6) : Vec Ideal S32x8732x21 .f32)

/-- One image's share of the first total. -/
def imageSum (c : Dev nD) (p : Fin 32) : EReal :=
  ∑ n : Fin 8732, (∑ k : Fin 21, joint (weight m c) (conf m c p n k) (shuf m c p n k) (interp m c p n k))
    * mask (conf m c p n) (shuf m c p n)

/-- One image's share of the second total. -/
def imageCnt (c : Dev nD) (p : Fin 32) : EReal := ∑ n : Fin 8732, mask (conf m c p n) (shuf m c p n)

/-- The mask of a grid point's block at one row. -/
theorem mask_block (c : Dev nD) (t : Fin cfg0.N) (i : Fin 2) (n : Fin 8732) :
    k0_pay7 (F := Ideal) (iblk m c 1 t) (iblk m c 2 t) (ix3 i 0 n) = mask (conf m c (image t i) n) (shuf m c (image t i) n) :=
  (pay7_apply _ _ i n).trans
    (congrArg₂ mask (funext fun k => block_conf m c t i k n) (funext fun k => block_shuffle m c t i k n))

/-- The joint term of a grid point's blocks at one element. -/
theorem joint_block (c : Dev nD) (t : Fin cfg0.N) (i : Fin 2) (k : Fin 21) (n : Fin 8732) :
    k0_pay6 (F := Ideal) ((iblk m c 0 t : Vec Ideal S1 .f32) cell1) (iblk m c 1 t) (iblk m c 2 t) (iblk m c 3 t) (ix3 i k n)
      = joint (weight m c) (conf m c (image t i) n k) (shuf m c (image t i) n k) (interp m c (image t i) n k) := by
  refine (pay6_apply _ _ _ _ i k n).trans ?_
  rw [block_weight, block_conf, block_shuffle, block_interp]
  rfl

/-- A grid point adds its two images' shares to the first total. -/
theorem addSum_eq (c : Dev nD) (t : Fin cfg0.N) (acc : EReal) :
    addSum (F := Ideal) m c t acc = acc + ∑ i : Fin 2, imageSum m c (image t i) := by
  refine (pay1_apply _ _ _).trans (congrArg (acc + ·) (Finset.sum_congr rfl fun i _ => Finset.sum_congr rfl fun n _ => ?_))
  rw [mask_block]
  exact congrArg (· * _) (Finset.sum_congr rfl fun k _ => joint_block m c t i k n)

/-- A grid point adds its two images' shares to the second total. -/
theorem addCnt_eq (c : Dev nD) (t : Fin cfg0.N) (acc : EReal) :
    addCnt (F := Ideal) m c t acc = acc + ∑ i : Fin 2, imageCnt m c (image t i) := by
  refine (pay2_apply _ _).trans (congrArg (acc + ·) (Finset.sum_congr rfl fun i _ => Finset.sum_congr rfl fun n _ => ?_))
  exact mask_block m c t i n

/-- A total started from zero that gains two images' shares at each point holds, after point `n`, the shares of the first `2 n + 2`
    images. -/
theorem chain_eq (f : Fin 32 → EReal) (g : (n : ℕ) → n < cfg0.N → EReal)
    (h0 : ∀ h, g 0 h = 0 + ∑ i : Fin 2, f (image ⟨0, h⟩ i))
    (hs : ∀ n h, g (n + 1) h = g n (Nat.lt_of_succ_lt h) + ∑ i : Fin 2, f (image ⟨n + 1, h⟩ i)) :
    ∀ n (h : n < cfg0.N), g n h = ∑ p ∈ Finset.univ.filter (fun p : Fin 32 => p.val < 2 * (n + 1)), f p
  | 0, h => by
    rw [h0, zero_add]
    rfl
  | n + 1, h => by
    have hN : cfg0.N = 16 := N_0
    rw [hs, chain_eq f g h0 hs n]
    have hd : Disjoint (Finset.univ.filter fun p : Fin 32 => p.val < 2 * (n + 1))
        ((Finset.univ : Finset (Fin 2)).image (image ⟨n + 1, h⟩)) := by
      rw [Finset.disjoint_left]
      intro p hp hq
      obtain ⟨i, -, rfl⟩ := Finset.mem_image.mp hq
      have := (Finset.mem_filter.mp hp).2
      simp only [image] at this
      omega
    have hu : (Finset.univ.filter fun p : Fin 32 => p.val < 2 * (n + 1 + 1))
        = (Finset.univ.filter fun p : Fin 32 => p.val < 2 * (n + 1)) ∪ (Finset.univ : Finset (Fin 2)).image (image ⟨n + 1, h⟩) := by
      ext p
      simp only [Finset.mem_union, Finset.mem_filter, Finset.mem_univ, true_and, Finset.mem_image]
      constructor
      · intro hp
        by_cases hq : p.val < 2 * (n + 1)
        · exact Or.inl hq
        · exact Or.inr ⟨⟨p.val - 2 * (n + 1), by omega⟩, Fin.ext (by simp only [image]; omega)⟩
      · rintro (hp | ⟨i, rfl⟩)
        · omega
        · simp only [image]; omega
    have hi : Set.InjOn (image ⟨n + 1, h⟩) ((Finset.univ : Finset (Fin 2)) : Set (Fin 2)) := by
      intro i _ i' _ e
      have := congrArg Fin.val e
      simp only [image] at this
      exact Fin.ext (by omega)
    rw [hu, Finset.sum_union hd, Finset.sum_image hi]

/-- After the last point such a total holds every image's share. -/
theorem chain_total (f : Fin 32 → EReal) (g : (n : ℕ) → n < cfg0.N → EReal)
    (h0 : ∀ h, g 0 h = 0 + ∑ i : Fin 2, f (image ⟨0, h⟩ i))
    (hs : ∀ n h, g (n + 1) h = g n (Nat.lt_of_succ_lt h) + ∑ i : Fin 2, f (image ⟨n + 1, h⟩ i)) :
    g 15 last_lt = ∑ p : Fin 32, f p := by
  rw [chain_eq f g h0 hs, Finset.filter_true_of_mem fun p _ => by omega]

/-- The word the totals start from is zero. -/
theorem start_zero : (Scalar.ofBits .f32 0x00000000#32 : Ideal .f32) = (0 : EReal) := Ideal.ofBits_zero_f32

/-- The first total after the last point. -/
theorem sumAt_last (c : Dev nD) : (sumAt m c 15 last_lt : EReal) = ∑ p : Fin 32, imageSum m c p :=
  chain_total (imageSum m c) (sumAt m c)
    (fun h => (addSum_eq m c ⟨0, h⟩ _).trans (by rw [start_zero])) (fun n h => addSum_eq m c ⟨n + 1, h⟩ _)

/-- The second total after the last point. -/
theorem cntAt_last (c : Dev nD) : (cntAt m c 15 last_lt : EReal) = ∑ p : Fin 32, imageCnt m c p :=
  chain_total (imageCnt m c) (cntAt m c)
    (fun h => (addCnt_eq m c ⟨0, h⟩ _).trans (by rw [start_zero])) (fun n h => addCnt_eq m c ⟨n + 1, h⟩ _)

/-- The kernel's result is the loss as the kernel arranges it, of the arguments' rows. -/
theorem loss_eq (c : Dev nD) :
    (loss m c : EReal) = Cert.Consistency.kernelLoss (weight m c) (conf m c) (shuf m c) (interp m c) := by
  unfold loss
  rw [pay3_apply, sumAt_last, cntAt_last]
  rfl

end Cert.KernelIdeal.Value
-- ==== Proof.RefValue.lean ====
/- What the reference program leaves in its result: the loss as the reference arranges it. -/
module

public import proofs.«01_k».proof.Proof.Words
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Consistency (mask mixed divergence offset rows rowsAcross)

/-- An array of confidences: image, anchor box, class. -/
abbrev A3 := FVec Ideal S32x8732x21 .f32

/-- The confidences to be shuffled, each image's taken from the image 16 further on around the batch. -/
def shuffled (w : A3) : A3 :=
  concatenate S32x8732x21 0 [⟨S16x8732x21, extractStridedSlice S16x8732x21 ![16, 0, 0] w slices_S32x8732x21_S16x8732x21_16_0_0⟩,
    ⟨S16x8732x21, extractStridedSlice S16x8732x21 ![0, 0, 0] w slices_S32x8732x21_S16x8732x21_0_0_0⟩]
    concatenates_S16x8732x21_S16x8732x21_S32x8732x21_d0

/-- The reference's comparison of a row's best object class with the background. -/
def above (u : A3) : IVec S32x8732 1 :=
  cmpf .ogt (Host.reduce FloatOps.maximumf (extractStridedSlice S32x8732x20 ![0, 0, 1] u slices_S32x8732x21_S32x8732x20_0_0_1)
      (constant S_ .f32 0xFF800000#32) reducesTo_S32x8732x20_S32x8732_d2 h_S_)
    (shapeCast _ (extractStridedSlice S32x8732x1 ![0, 0, 0] u slices_S32x8732x21_S32x8732x1_0_0_0) shapeCasts_S32x8732x1_S32x8732)

/-- The reference's mask. -/
def masks (u w : A3) : FVec Ideal S32x8732 .f32 := uitofp .f32 (andi (above u) (above (shuffled w)))

/-- The reference's sum of one quantity per row. -/
def rowSum (x : FVec Ideal S32x8732 .f32) : FVec Ideal S_ .f32 :=
  Host.reduceAdd x (constant S_ .f32 0x00000000#32) reducesTo_S32x8732_S_d0_1 h_S_

/-- The reference's sum over the classes of each row. -/
def classSum (x : A3) : FVec Ideal S32x8732 .f32 :=
  Host.reduceAdd x (constant S_ .f32 0x00000000#32) reducesTo_S32x8732x21_S32x8732_d2 h_S_

/-- The reference's offset at every element. -/
def offsets : A3 := broadcastInDim S32x8732x21 ![] bcast_S_S32x8732x21 (constant S_ .f32 0x33D6BF95#32)

/-- The reference's mixture. -/
def mixture (l : FVec Ideal S_ .f32) (u w : A3) : A3 :=
  addf (addf (mulf (broadcastInDim S32x8732x21 ![] bcast_S_S32x8732x21 l) u)
    (mulf (broadcastInDim S32x8732x21 ![] bcast_S_S32x8732x21 (subf (constant S_ .f32 0x3F800000#32) l)) (shuffled w))) offsets

/-- The reference's divergence of one array of confidences from another, summed over the classes. -/
def diverge (s t : A3) : FVec Ideal S32x8732 .f32 := classSum (mulf s (subf (Host.log s) (Host.log t)))

/-- The reference's mean over the kept rows. -/
def keptMean (M x : FVec Ideal S32x8732 .f32) : FVec Ideal S_ .f32 :=
  Host.divf (rowSum (mulf x M)) (maximumf (rowSum M) (constant S_ .f32 0x3F800000#32))

/-- The reference's result, of its four arguments that matter. -/
def result (l : FVec Ideal S_ .f32) (u w x : A3) : FVec Ideal S_ .f32 :=
  select (cmpf .ogt (rowSum (masks u w)) (constant S_ .f32 0x00000000#32))
    (Host.divf (addf (keptMean (masks u w) (diverge (addf x offsets) (mixture l u w)))
        (keptMean (masks u w) (diverge (mixture l u w) (addf x offsets)))) (constant S_ .f32 0x40000000#32))
    (constant S_ .f32 0x00000000#32)

/-- The run's composed term is that result. -/
theorem res_eq (m : (ℓ : Loc nD τ sig) → Buf (Elt Ideal) ℓ) (c : Dev nD) :
    res_main_v46 m c = result (m ((c.tc : Thread nD τ).loc main_arg0)) (m ((c.tc : Thread nD τ).loc main_arg1))
      (m ((c.tc : Thread nD τ).loc main_arg5)) (m ((c.tc : Thread nD τ).loc main_arg6)) := rfl

/-- The shuffled confidences at one element. -/
theorem shuffled_apply (w : A3) (p : Fin 32) (n : Fin 8732) (k : Fin 21) :
    shuffled w (ix3 p n k) = rowsAcross w p n k := by
  unfold rowsAcross
  pointwise [shuffled]
  split
  · exact congrArg (fun q : Fin 32 => w (ix3 q n k)) (Fin.ext (by simp only [Cert.Consistency.across]; omega))
  · exact congrArg (fun q : Fin 32 => w (ix3 q n k)) (Fin.ext (by simp only [Cert.Consistency.across]; omega))

/-- The background's confidence at one row. -/
theorem background_apply (u : A3) (p : Fin 32) (n : Fin 8732) :
    shapeCast S32x8732 (extractStridedSlice S32x8732x1 ![0, 0, 0] u slices_S32x8732x21_S32x8732x1_0_0_0)
      shapeCasts_S32x8732x1_S32x8732 (ix2 p n) = u (ix3 p n 0) := by
  pointwise

/-- The greatest of 20 values at one row. -/
theorem greatest_apply (x : FVec Ideal S32x8732x20 .f32) (p : Fin 32) (n : Fin 8732) :
    Host.reduce FloatOps.maximumf x (constant S_ .f32 0xFF800000#32) reducesTo_S32x8732x20_S32x8732_d2 h_S_ (ix2 p n)
      = (Finset.univ : Finset (Fin 20)).fold max ⊥ fun k => x (ix3 p n k) := by
  pointwise
  rw [Cert.Consistency.bottom_f32]

/-- The object classes' confidences: the array without its first class. -/
theorem objects_apply (u : A3) (p : Fin 32) (n : Fin 8732) (k : Fin 20) :
    extractStridedSlice S32x8732x20 ![0, 0, 1] u slices_S32x8732x21_S32x8732x20_0_0_1 (ix3 p n k)
      = u (ix3 p n ⟨1 + k.val, by omega⟩) := by
  pointwise

/-- The comparison at one row. -/
theorem above_apply (u : A3) (p : Fin 32) (n : Fin 8732) :
    above u (ix2 p n) = BitVec.ofBool (decide (rows u p n 0 < Cert.Consistency.best (rows u p n))) := by
  unfold above
  rw [ValueIdx.cmpf_apply, greatest_apply, background_apply]
  simp only [objects_apply]
  rfl

/-- The mask at one row. -/
theorem masks_apply (u w : A3) (p : Fin 32) (n : Fin 8732) :
    masks u w (ix2 p n) = mask (rows u p n) (rowsAcross w p n) := by
  have hw : rows (shuffled w) p n = rowsAcross w p n := funext fun k => shuffled_apply w p n k
  show FloatOps.uitofp .f32 (IntOp.andi (above u (ix2 p n)) (above (shuffled w) (ix2 p n))) = _
  rw [above_apply, above_apply, Cert.Consistency.both_uitofp, hw, mask]

/-- The sum over rows. -/
theorem rowSum_apply (x : FVec Ideal S32x8732 .f32) (j : S_.Idx) :
    rowSum x j = ∑ p : Fin 32, ∑ n : Fin 8732, x (ix2 p n) := by
  unfold rowSum
  rw [ValueIdx.hostReduceAdd_apply, Ideal.hostReduceAdd_total _ (fun b => b.elim0), sum_idx2]
  show Ideal.ofBits .f32 0x00000000#32 + _ = _
  rw [Ideal.ofBits_zero_f32, zero_add]

/-- The sum over classes. -/
theorem classSum_apply (x : A3) (p : Fin 32) (n : Fin 8732) : classSum x (ix2 p n) = ∑ k : Fin 21, x (ix3 p n k) := by
  pointwise [classSum]

/-- The divergence at one row. -/
theorem diverge_apply (s t : A3) (p : Fin 32) (n : Fin 8732) :
    diverge s t (ix2 p n) = ∑ k : Fin 21, divergence (s (ix3 p n k)) (t (ix3 p n k)) := by
  unfold diverge
  rw [classSum_apply]
  refine Finset.sum_congr rfl fun k _ => ?_
  unfold divergence
  pointwise

/-- The offset at one element. -/
theorem offsets_apply (i : S32x8732x21.Idx) : offsets i = offset := by
  pointwise [offsets]
  exact Cert.Consistency.offset_f32

/-- The mixture at one element. -/
theorem mixture_apply (l : FVec Ideal S_ .f32) (u w : A3) (p : Fin 32) (n : Fin 8732) (k : Fin 21) :
    mixture l u w (ix3 p n k) = mixed (l ix0) (rows u p n k) (rowsAcross w p n k) := by
  rw [← shuffled_apply]
  unfold mixed rows
  rw [← offsets_apply (ix3 p n k)]
  pointwise [mixture]

/-- The interpolated confidences with the offset, at one element. -/
theorem interp_apply (x : A3) (p : Fin 32) (n : Fin 8732) (k : Fin 21) :
    (addf x offsets : A3) (ix3 p n k) = rows x p n k + offset := by
  unfold rows
  rw [← offsets_apply (ix3 p n k)]
  pointwise

/-- The sum of the mask is the count of kept rows. -/
theorem masks_total (u w : A3) (j : S_.Idx) :
    rowSum (masks u w) j = Cert.Consistency.count (rows u) (rowsAcross w) := by
  rw [rowSum_apply, Cert.Consistency.count]
  exact Finset.sum_congr rfl fun p _ => Finset.sum_congr rfl fun n _ => masks_apply u w p n

/-- The sum of a quantity over the kept rows. -/
theorem kept_total (u w : A3) (x : FVec Ideal S32x8732 .f32) (f : Fin 32 → Fin 8732 → EReal)
    (hf : ∀ p n, x (ix2 p n) = f p n) (j : S_.Idx) :
    rowSum (mulf x (masks u w)) j = Cert.Consistency.kept (rows u) (rowsAcross w) f := by
  rw [rowSum_apply, Cert.Consistency.kept]
  refine Finset.sum_congr rfl fun p _ => Finset.sum_congr rfl fun n _ => ?_
  rw [← hf, ← masks_apply]
  pointwise

/-- A quotient by at least 1, at the one index. -/
theorem quotient_apply (a b : FVec Ideal S_ .f32) (j : S_.Idx) :
    Host.divf a (maximumf b (constant S_ .f32 0x3F800000#32)) j = Ideal.div (a j) (max (b j) 1) := by
  pointwise

/-- The mean over the kept rows is the kept sum divided by the count, or by 1 where nothing is kept. -/
theorem keptMean_apply (u w : A3) (x : FVec Ideal S32x8732 .f32) (f : Fin 32 → Fin 8732 → EReal)
    (hf : ∀ p n, x (ix2 p n) = f p n) (j : S_.Idx) :
    keptMean (masks u w) x j = Ideal.div (Cert.Consistency.kept (rows u) (rowsAcross w) f)
      (max (Cert.Consistency.count (rows u) (rowsAcross w)) 1) := by
  unfold keptMean
  rw [quotient_apply, masks_total, kept_total u w x f hf]

/-- Half of a sum where a count is positive and zero elsewhere, at the one index. -/
theorem guarded_half_apply (a b d : FVec Ideal S_ .f32) (j : S_.Idx) :
    select (cmpf .ogt d (constant S_ .f32 0x00000000#32)) (Host.divf (addf a b) (constant S_ .f32 0x40000000#32))
      (constant S_ .f32 0x00000000#32) j = if 0 < d j then Ideal.div (a j + b j) 2 else (0 : EReal) := by
  pointwise
  rw [Cert.Consistency.two_f32]

/-- The divergence of the interpolated confidences from the mixture, at one row. -/
theorem toward_mixture (l : FVec Ideal S_ .f32) (u w x : A3) (p : Fin 32) (n : Fin 8732) :
    diverge (addf x offsets) (mixture l u w) (ix2 p n)
      = ∑ k : Fin 21, divergence (rows x p n k + offset) (mixed (l ix0) (rows u p n k) (rowsAcross w p n k)) := by
  rw [diverge_apply]
  exact Finset.sum_congr rfl fun k _ => by rw [interp_apply, mixture_apply]

/-- The divergence of the mixture from the interpolated confidences, at one row. -/
theorem toward_interp (l : FVec Ideal S_ .f32) (u w x : A3) (p : Fin 32) (n : Fin 8732) :
    diverge (mixture l u w) (addf x offsets) (ix2 p n)
      = ∑ k : Fin 21, divergence (mixed (l ix0) (rows u p n k) (rowsAcross w p n k)) (rows x p n k + offset) := by
  rw [diverge_apply]
  exact Finset.sum_congr rfl fun k _ => by rw [interp_apply, mixture_apply]

/-- The reference's result is the loss as the reference arranges it, of the arguments' rows. -/
theorem result_apply (l : FVec Ideal S_ .f32) (u w x : A3) (j : S_.Idx) :
    result l u w x j = Cert.Consistency.referenceLoss (l ix0) (rows u) (rowsAcross w) (rows x) := by
  unfold result Cert.Consistency.referenceLoss
  rw [guarded_half_apply, masks_total, keptMean_apply u w _ _ (toward_mixture l u w x),
    keptMean_apply u w _ _ (toward_interp l u w x)]

end Cert.ReferenceIdeal.Value
-- ==== Proof.Pre.lean ====
/- What the precondition says: the mixing weight lies between 0 and 1, and every confidence is finite and not negative. -/
module

public import proofs.«01_k».proof.Defs
public import proofs.«01_k».proof.Proof.Gen.Pre_probabilities
public import proofs.«01_k».proof.Proof.Words

@[expose] public section

set_option maxRecDepth 16384

noncomputable section

namespace Cert.Pre_probabilities

open Idealize.ShloMosaic
open Facts

variable [Facts]

/-- A conjunction of two comparisons that is 1 says that both hold. -/
theorem both_hold (p q : Prop) [Decidable p] [Decidable q]
    (h : IntOp.andi (BitVec.ofBool (decide p)) (BitVec.ofBool (decide q)) = 1#1) : p ∧ q := by
  by_cases hp : p <;> by_cases hq : q <;> simp_all [IntOp.andi]

/-- The check of an array of confidences, where it is 1 everywhere: each is finite and not negative. -/
theorem tame_of (x : FVec Ideal S32x8732x21 .f32)
    (h : andi (cmpf .oge x (broadcastInDim S32x8732x21 ![] bcast_S_S32x8732x21 (constant S_ .f32 0x00000000#32)))
      (cmpf .olt x (broadcastInDim S32x8732x21 ![] bcast_S_S32x8732x21 (constant S_ .f32 0x7F800000#32))) = fun _ => 1#1)
    (i : S32x8732x21.Idx) : (0 : EReal) ≤ x i ∧ x i < (⊤ : EReal) := by
  refine both_hold _ _ (Eq.trans ?_ (congrFun h i))
  pointwise
  rw [Cert.Consistency.top_f32]

/-- The check of the mixing weight, where it is 1: it lies between 0 and 1. -/
theorem weight_of (l : FVec Ideal S_ .f32)
    (h : andi (cmpf .oge l (constant S_ .f32 0x00000000#32)) (cmpf .ole l (constant S_ .f32 0x3F800000#32)) = fun _ => 1#1)
    (i : S_.Idx) : (0 : EReal) ≤ l i ∧ l i ≤ (1 : EReal) := by
  refine both_hold _ _ (Eq.trans ?_ (congrFun h i))
  pointwise

end Cert.Pre_probabilities
-- ==== Proof.Algebraic.lean ====
/- The value claim: at the extended reals, on inputs that are probabilities, the kernel program and the reference
   program leave the same number in their results. -/
module

public import proofs.«01_k».proof.Proof.Equation
public import proofs.«01_k».proof.Proof.KernelSum
public import proofs.«01_k».proof.Proof.RefValue
public import proofs.«01_k».proof.Proof.Pre

@[expose] public section

set_option maxRecDepth 16384

noncomputable section

namespace Cert.Proof

open Idealize.ShloMosaic Idealize.ShloMosaic.TcCoe Idealize.SL.Sem
open Cert.KernelIdeal.Value (weight conf shuf interp)

/-- On inputs that are probabilities the two arrangements of the loss agree, at the kernel's arguments. -/
theorem losses_equal (m : (ℓ : Loc Cert.KernelIdeal.nD Cert.KernelIdeal.τ Cert.KernelIdeal.sig) → Buf (Elt Ideal) ℓ)
    (h : Cert.Pre_KernelIdeal_probabilities m) (c : Dev Cert.KernelIdeal.nD) :
    Cert.Consistency.kernelLoss (weight m c) (conf m c) (shuf m c) (interp m c)
      = Cert.Consistency.referenceLoss (weight m c) (conf m c) (shuf m c) (interp m c) := by
  obtain ⟨h0, h1, h5, h6⟩ := h c
  have w := Cert.Pre_probabilities.weight_of _ h0 ix0
  exact Cert.Consistency.losses_agree _ _ _ _ w.1 w.2
    (fun p n k => Cert.Pre_probabilities.tame_of _ h1 (ix3 p n k))
    (fun p n k => Cert.Pre_probabilities.tame_of _ h5 (ix3 (Cert.Consistency.across p) n k))
    (fun p n k => Cert.Pre_probabilities.tame_of _ h6 (ix3 p n k))

/-- The value claim. -/
theorem algebraic : Cert.algebraic_KernelIdeal_ReferenceIdeal_pre_probabilities := fun m ρ m' ρ' hpre hag =>
  ⟨fun c _ => Cert.KernelIdeal.Value.loss m c, Cert.KernelIdeal.Value.run m ρ,
    (θ_run _ _ _).mono (fun _ h c => ⟨(h c).1.trans (by
      obtain ⟨g0, g1, -, -, -, g5, g6, -, -⟩ := hag c
      rw [Cert.ReferenceIdeal.Value.res_eq, g0, g1, g5, g6]
      funext j
      refine (Cert.ReferenceIdeal.Value.result_apply _ _ _ _ j).trans ?_
      exact (losses_equal m hpre c).symm.trans (Cert.KernelIdeal.Value.loss_eq m c).symm), (h c).2⟩)
      (Cert.ReferenceIdeal.Value.run m' ρ')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_probabilities
public import proofs.«01_k».proof.Proof.Algebraic
public import Idealize.ShloMosaic.Adequacy
public import Idealize.ShloMosaic.Init

@[expose] public section

noncomputable section

namespace Cert.Proof

open Idealize.ShloMosaic Idealize.SL.Sem

/-- The reference's run keeps its arguments, and it has no semaphore. -/
theorem frame_reference : Cert.quiescent_Reference (hReference := Cert.Reference.Gen.facts) := fun m ρ _ =>
  (θ_run Cert.Reference.defs _ _).mono (fun r h => ⟨fun c => (h c).2, sem_eq_zero_of_no_sems (by decide) r.2⟩)
    (Cert.Reference.Value.run m ρ)

/-- The same of the reference read at the extended reals. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The one rewrite of the kernel: the bf16 word of the offset is read as the number its name stands for. -/
theorem preserves_kernel : Cert.preserves_Kernel_KernelIdeal :=
  IdealRules.named_const.statement Cert.KernelIdeal.κ "eps" .bf16 0x33D7#16 ((14073749 / 140737488355328 : ℝ) : EReal) rfl

/-- All the claims: the frames, the rewrites, and the equality of the two results. -/
theorem claim : Cert.Claim := ⟨Cert.Kernel.Gen.facts, Cert.KernelIdeal.Gen.facts, Cert.ReferenceIdeal.Gen.facts,
  Cert.Reference.Gen.facts, Cert.Pre_probabilities.Gen.facts,
  fun m ρ _ => Cert.Kernel.Gen.frame m ρ, fun m ρ _ => Cert.KernelIdeal.Gen.frame m ρ, fun m ρ _ => Cert.KernelIdeal.Gen.frame m ρ,
  frame_referenceIdeal, fun m ρ _ => frame_referenceIdeal m ρ trivial, frame_reference, preserves_kernel, trivial, algebraic⟩

end Cert.Proof

end
